-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_qscale" .f32 0x36DFB23B#32 ((1 / 150000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S5x16x2000 : Shape := ⟨3, ![5, 16, 2000]⟩
abbrev S2000x10000 : Shape := ⟨2, ![2000, 10000]⟩
abbrev S1x16x2000 : Shape := ⟨3, ![1, 16, 2000]⟩
abbrev S16x10000 : Shape := ⟨2, ![16, 10000]⟩
abbrev S1000x10000 : Shape := ⟨2, ![1000, 10000]⟩
abbrev S16x1000 : Shape := ⟨2, ![16, 1000]⟩
abbrev S16x2000 : Shape := ⟨2, ![16, 2000]⟩
abbrev S2000 : Shape := ⟨1, ![2000]⟩
abbrev S1x2000 : Shape := ⟨2, ![1, 2000]⟩
abbrev S5x2000x16 : Shape := ⟨3, ![5, 2000, 16]⟩

abbrev nBuf : Space → Nat
  | .hbm => 13
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x128, .f32⟩
  | .hbm, ⟨7, _⟩ => ⟨S1x16, .f32⟩
  | .hbm, ⟨8, _⟩ => ⟨S10000x16, .f32⟩
  | .hbm, ⟨9, _⟩ => ⟨S10000x10000, .i4⟩
  | .hbm, ⟨10, _⟩ => ⟨S5x16x2000, .f32⟩
  | .hbm, ⟨11, _⟩ => ⟨S5x2000x16, .f32⟩
  | .hbm, ⟨12, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S400x10000, .i4⟩
  | .local _ .vmem, ⟨10, _⟩ => ⟨S400x10000, .i4⟩
  | .local _ .vmem, ⟨11, _⟩ => ⟨S10000x16, .f32⟩
  | .local _ .vmem, ⟨12, _⟩ => ⟨S2000x10000, .i4⟩
  | .local _ .vmem, ⟨13, _⟩ => ⟨S2000x10000, .i4⟩
  | .local _ .vmem, ⟨14, _⟩ => ⟨S10000x16, .f32⟩
  | .local _ .vmem, ⟨15, _⟩ => ⟨S1x16x2000, .f32⟩
  | .local _ .vmem, ⟨16, _⟩ => ⟨S1x16x2000, .f32⟩
  | .local _ .vmem, ⟨17, _⟩ => ⟨S16x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x10000 .i4 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x10000 .i4 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x16x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "inv_qscale" => some ((1 / 150000 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x16, .f32⟩
  | .hbm, ⟨11, _⟩ => ⟨S1x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S_, .f32⟩
  | .hbm, ⟨28, _⟩ => ⟨S10000x10000, .f32⟩
  | .hbm, ⟨29, _⟩ => ⟨S10000x10000, .f32⟩
  | .hbm, ⟨30, _⟩ => ⟨S10000x16, .f32⟩
  | .hbm, ⟨31, _⟩ => ⟨S_, .f32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x16, .f32⟩
  | .hbm, ⟨38, _⟩ => ⟨S10000x16, .f32⟩
  | .hbm, ⟨39, _⟩ => ⟨S10000x16, .f32⟩
  | .hbm, ⟨40, _⟩ => ⟨S_, .f32⟩
  | .hbm, ⟨41, _⟩ => ⟨S10000, .f32⟩
  | .hbm, ⟨42, _⟩ => ⟨S10000x1, .f32⟩
  | .hbm, ⟨43, _⟩ => ⟨S10000x1, .f32⟩
  | .hbm, ⟨44, _⟩ => ⟨S10000x16, .f32⟩
  | .hbm, ⟨45, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_v0 : Ref sig .tc := ⟨.hbm, 32, rfl⟩
abbrev main_call2_cst_0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_cst_1 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== Proof.Whole.lean ====
/- A store of a whole block, read back: what both kernel bodies end with. -/
module

public import proofs.«01_k».proof.Proof.Gen.KernelIdeal
public import Idealize.ShloMosaic.Lib.Pipeline.FrameBody
public import Idealize.ShloMosaic.Lib.Pipeline.Value

@[expose] public section

noncomputable section

namespace Cert.Sgc

open Idealize.ShloMosaic

/-- The offsets of a whole two-axis block are zero. -/
theorem off2 : (![0, 0] : Fin 2 → Nat) = fun _ => 0 := funext fun a => by fin_cases a <;> rfl

/-- The offsets of a whole three-axis block are zero. -/
theorem off3 : (![0, 0, 0] : Fin 3 → Nat) = fun _ => 0 := funext fun a => by fin_cases a <;> rfl

/-- One store of a whole block leaves exactly the block stored, whatever was there. -/
theorem read_stored {Val : EltTy → Type} [∀ e, Nonempty (Val e)] {sig : RefSig} {κ : Kind} {sp : Space} {S : Shape}
    {e : EltTy} (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ fun y => ⟨_, List.mem_singleton_self _, by
    subst h; show y ∈ (Rect.whole S).set; rw [Rect.set_whole]; exact Finset.mem_univ y⟩]
  exact View.canon_unit_zero h inb w

end Cert.Sgc

end
-- ==== Proof.Hop2.lean ====
/- The second kernel's body at one grid point: what it leaves in each buffer it is given.

   At the first point it also fills its scratch with the first hop transposed; at every point it multiplies that by the
   two halves of a block of codes, scales, and writes the block's log-softmax. -/
module

public import proofs.«01_k».proof.Proof.Whole
public import proofs.«01_k».proof.Proof.Gen.KernelIdeal.Skeleton
public import proofs.«01_k».proof.Proof.Gen.KernelIdeal.Launch
public import proofs.«01_k».proof.Proof.Gen.KernelIdeal.Points
public import Idealize.ShloMosaic.Lib.Ring
public import Idealize.ShloMosaic.Lib.Tactic
public import Idealize.ShloMosaic.Lib.WordCmp

@[expose] public section

set_option maxRecDepth 16384

noncomputable section

namespace Cert.Sgc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's test "is this the first point", as the program computes it. -/
abbrev First1 (i : grid1.Coords) : Prop :=
  (Scalar.cmpi .ne (Scalar.extui (Scalar.cmpi .eq (BitVec.ofNat 32 (i 0).val) 0#32)) 0#32) = 1#1

/-- It holds at point 0 and at no other. -/
theorem first1_iff : ∀ t : Fin cfg1.N, First1 (grid1.coords t) ↔ t.val = 0 :=
  (fun t => by
    have ht : t.val < 5 := Nat.lt_of_lt_of_eq t.isLt N_1
    have e0 : (grid1.coords t 0).val = t.val / 1 % 5 := Pipeline.Grid.coords_val t 0 (by decide) rfl
    have e1 : t.val / 1 % 5 = t.val := by omega
    simp only [First1, e0, e1]
    word_cmp
   : ∀ t : Fin grid1.N, First1 (grid1.coords t) ↔ t.val = 0)

/-- The first thousand rows of a block of codes. -/
abbrev upper (q : Vec F S2000x10000 .i4) : Vec F S1000x10000 .i4 :=
  View.ld q (Rect.unit (s := S2000x10000) ![0, 0] S1000x10000.size inb_S2000x10000_S1000x10000_0_0)

/-- The last thousand rows of a block of codes. -/
abbrev lower (q : Vec F S2000x10000 .i4) : Vec F S1000x10000 .i4 :=
  View.ld q (Rect.unit (s := S2000x10000) ![1000, 0] S1000x10000.size inb_S2000x10000_S1000x10000_1000_0)

set_option maxHeartbeats 2000000 in
/-- The first point: the scratch is filled, then read for the block of the result. -/
theorem hop2_first (c : Dev nD) (i : grid1.Coords)
    (arg1 : Memref sig .tc .vmem S2000x10000 .i4) (harg1 : arg1.IsWhole)
    (arg2 : Memref sig .tc .vmem S10000x16 .f32) (harg2 : arg2.IsWhole)
    (arg3 : Memref sig .tc .vmem S1x16x2000 .f32) (harg3 : arg3.IsWhole)
    (arg4 : Memref sig .tc .vmem S16x10000 .bf16) (harg4 : arg4.IsWhole) (hc : First1 i)
    (q : Vec F S2000x10000 .i4) (h : Vec F S10000x16 .f32) (E : Set ℕ) (K : PUnit → sProp 𝕄) :
    iprop(owns (c : Thread nD τ) arg1 fullShare q ∗ owns (c : Thread nD τ) arg2 fullShare h
        ∗ (∃ d, owns (c : Thread nD τ) arg3 fullShare d) ∗ (∃ d, owns (c : Thread nD τ) arg4 fullShare d)
        ∗ (iprop(owns (c : Thread nD τ) arg1 fullShare q ∗ owns (c : Thread nD τ) arg2 fullShare h
            ∗ owns (c : Thread nD τ) arg3 fullShare (k1_pay2 (upper q) (lower q) (k1_pay1 h))
            ∗ owns (c : Thread nD τ) arg4 fullShare (k1_pay1 h)) -∗ K ⟨⟩))
      ⊢ wp frame (wpE (defs₀ (F := F)) Variants.none c none) E
          (cc1__hop2_body i arg1 harg1 arg2 harg2 arg3 harg3 arg4 harg4) K := by
  simp only [cc1__hop2_body_eq_skeleton]; unfold cc1__hop2_body_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_stored _ _ off3 _ _).trans ?_
    sl_unfold_words
    rw [View.readCov_unit_zero (S := S16x10000) _ off2]
    simp only [View.readAt_eq_ld, harg1.read_unread, harg2.read_unread]
    rw [View.ld_unit_zero (S := S10000x16) off2]
  iexists _; isplitr
  swap; · iexact H4
  ipureintro
  refine (read_stored _ _ off2 _ _).trans ?_
  simp only [View.readAt_eq_ld, harg2.read_unread]
  rw [View.ld_unit_zero off2]

set_option maxHeartbeats 2000000 in
/-- A later point: the scratch keeps what the first point left in it. -/
theorem hop2_later (c : Dev nD) (i : grid1.Coords)
    (arg1 : Memref sig .tc .vmem S2000x10000 .i4) (harg1 : arg1.IsWhole)
    (arg2 : Memref sig .tc .vmem S10000x16 .f32) (harg2 : arg2.IsWhole)
    (arg3 : Memref sig .tc .vmem S1x16x2000 .f32) (harg3 : arg3.IsWhole)
    (arg4 : Memref sig .tc .vmem S16x10000 .bf16) (harg4 : arg4.IsWhole) (hc : ¬First1 i)
    (q : Vec F S2000x10000 .i4) (h : Vec F S10000x16 .f32) (ht : Vec F S16x10000 .bf16) (E : Set ℕ) (K : PUnit → sProp 𝕄) :
    iprop(owns (c : Thread nD τ) arg1 fullShare q ∗ owns (c : Thread nD τ) arg2 fullShare h
        ∗ (∃ d, owns (c : Thread nD τ) arg3 fullShare d) ∗ owns (c : Thread nD τ) arg4 fullShare ht
        ∗ (iprop(owns (c : Thread nD τ) arg1 fullShare q ∗ owns (c : Thread nD τ) arg2 fullShare h
            ∗ owns (c : Thread nD τ) arg3 fullShare (k1_pay2 (upper q) (lower q) ht)
            ∗ owns (c : Thread nD τ) arg4 fullShare ht) -∗ K ⟨⟩))
      ⊢ wp frame (wpE (defs₀ (F := F)) Variants.none c none) E
          (cc1__hop2_body i arg1 harg1 arg2 harg2 arg3 harg3 arg4 harg4) K := by
  simp only [cc1__hop2_body_eq_skeleton]; unfold cc1__hop2_body_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_stored _ _ off3 _ _).trans ?_
    simp only [View.readAt_eq_ld, harg1.read_unread, harg4.read_unread]
    rw [View.ld_unit_zero (S := S16x10000) off2]
  iexists _; isplitr; · ipureintro; exact harg4.read_unread _
  iexact H4

end Cert.Sgc

end
-- ==== Proof.Hop1.lean ====
/- The first kernel's body at one grid point: what it leaves in each buffer it is given.

   At the first point it also fills its scratch with `h0 = (x · w1 + b1) · w2 + b2`; at every point it writes a block of
   the first hop (`a · h0`) and the block of four-bit codes of `a`. -/
module

public import proofs.«01_k».proof.Proof.Whole
public import proofs.«01_k».proof.Proof.Gen.KernelIdeal.Skeleton
public import proofs.«01_k».proof.Proof.Gen.KernelIdeal.Launch
public import proofs.«01_k».proof.Proof.Gen.KernelIdeal.Points
public import Idealize.ShloMosaic.Lib.Ring
public import Idealize.ShloMosaic.Lib.Tactic
public import Idealize.ShloMosaic.Lib.WordCmp

@[expose] public section

set_option maxRecDepth 16384

noncomputable section

namespace Cert.Sgc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's test "is this the first point", as the program computes it. -/
abbrev First0 (i : grid0.Coords) : Prop :=
  (Scalar.cmpi .ne (Scalar.extui (Scalar.cmpi .eq (BitVec.ofNat 32 (i 0).val) 0#32)) 0#32) = 1#1

/-- It holds at point 0 and at no other. -/
theorem first0_iff : ∀ t : Fin cfg0.N, First0 (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    have e1 : t.val / 1 % 25 = t.val := by omega
    simp only [First0, e0, e1]
    word_cmp
   : ∀ t : Fin grid0.N, First0 (grid0.coords t) ↔ t.val = 0)

set_option maxHeartbeats 2000000 in
/-- The first point: the scratch is filled, then read for the block of the first hop. -/
theorem hop1_first (c : Dev nD) (i : grid0.Coords)
    (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x16 .f32) (harg5 : arg5.IsWhole)
    (arg6 : Memref sig .tc .vmem S1x16 .f32) (harg6 : arg6.IsWhole)
    (arg7 : Memref sig .tc .vmem S400x16 .f32) (harg7 : arg7.IsWhole)
    (arg8 : Memref sig .tc .vmem S400x10000 .i4) (harg8 : arg8.IsWhole)
    (arg9 : Memref sig .tc .vmem S10000x16 .f32) (harg9 : arg9.IsWhole) (hc : First0 i)
    (a : Vec F S400x10000 .f32) (x : Vec F S10000x128 .f32) (w1 : Vec F S128x128 .f32) (b1 : Vec F S1x128 .f32)
    (w2 : Vec F S128x16 .f32) (b2 : Vec F S1x16 .f32) (E : Set ℕ) (K : PUnit → sProp 𝕄) :
    iprop(owns (c : Thread nD τ) arg1 fullShare a ∗ owns (c : Thread nD τ) arg2 fullShare x
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare a ∗ owns (c : Thread nD τ) arg2 fullShare x
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (k0_pay3 a (k0_pay1 x w1 b1 w2 b2))
            ∗ owns (c : Thread nD τ) arg8 fullShare (k0_pay2 a)
            ∗ owns (c : Thread nD τ) arg9 fullShare (k0_pay1 x w1 b1 w2 b2)) -∗ K ⟨⟩))
      ⊢ wp frame (wpE (defs₀ (F := F)) Variants.none c none) E
          (cc0__hop1_body i arg1 harg1 arg2 harg2 arg3 harg3 arg4 harg4 arg5 harg5 arg6 harg6 arg7 harg7 arg8 harg8 arg9 harg9) K := by
  simp only [cc0__hop1_body_eq_skeleton]; unfold cc0__hop1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_stored _ _ off2 _ _).trans ?_
    sl_unfold_words
    rw [View.readCov_unit_zero (S := S10000x16) _ off2]
    simp only [View.readAt_eq_ld, harg1.read_unread, harg2.read_unread, harg3.read_unread, harg4.read_unread,
      harg5.read_unread, harg6.read_unread]
    rw [View.ld_unit_zero off2, View.ld_unit_zero off2, View.ld_unit_zero off2, View.ld_unit_zero off2,
      View.ld_unit_zero off2, View.ld_unit_zero off2]
  isplitl [H8]
  · iexists _; isplitr
    swap; · iexact H8
    ipureintro
    refine (read_stored _ _ off2 _ _).trans ?_
    simp only [View.readAt_eq_ld, harg1.read_unread]
    rw [View.ld_unit_zero off2]
  iexists _; isplitr
  swap; · iexact H9
  ipureintro
  refine (read_stored _ _ off2 _ _).trans ?_
  simp only [View.readAt_eq_ld, harg2.read_unread, harg3.read_unread, harg4.read_unread, harg5.read_unread,
    harg6.read_unread]
  rw [View.ld_unit_zero off2, View.ld_unit_zero off2, View.ld_unit_zero off2, View.ld_unit_zero off2,
    View.ld_unit_zero off2]

set_option maxHeartbeats 2000000 in
/-- A later point: the scratch keeps what the first point left in it. -/
theorem hop1_later (c : Dev nD) (i : grid0.Coords)
    (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x16 .f32) (harg5 : arg5.IsWhole)
    (arg6 : Memref sig .tc .vmem S1x16 .f32) (harg6 : arg6.IsWhole)
    (arg7 : Memref sig .tc .vmem S400x16 .f32) (harg7 : arg7.IsWhole)
    (arg8 : Memref sig .tc .vmem S400x10000 .i4) (harg8 : arg8.IsWhole)
    (arg9 : Memref sig .tc .vmem S10000x16 .f32) (harg9 : arg9.IsWhole) (hc : ¬First0 i)
    (a : Vec F S400x10000 .f32) (x : Vec F S10000x128 .f32) (w1 : Vec F S128x128 .f32) (b1 : Vec F S1x128 .f32)
    (w2 : Vec F S128x16 .f32) (b2 : Vec F S1x16 .f32) (h : Vec F S10000x16 .f32) (E : Set ℕ) (K : PUnit → sProp 𝕄) :
    iprop(owns (c : Thread nD τ) arg1 fullShare a ∗ owns (c : Thread nD τ) arg2 fullShare x
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d) ∗ (∃ d, owns (c : Thread nD τ) arg8 fullShare d)
        ∗ owns (c : Thread nD τ) arg9 fullShare h
        ∗ (iprop(owns (c : Thread nD τ) arg1 fullShare a ∗ owns (c : Thread nD τ) arg2 fullShare x
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (k0_pay3 a h)
            ∗ owns (c : Thread nD τ) arg8 fullShare (k0_pay2 a)
            ∗ owns (c : Thread nD τ) arg9 fullShare h) -∗ K ⟨⟩))
      ⊢ wp frame (wpE (defs₀ (F := F)) Variants.none c none) E
          (cc0__hop1_body i arg1 harg1 arg2 harg2 arg3 harg3 arg4 harg4 arg5 harg5 arg6 harg6 arg7 harg7 arg8 harg8 arg9 harg9) K := by
  simp only [cc0__hop1_body_eq_skeleton]; unfold cc0__hop1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg9.eq_unread hf9
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_stored _ _ off2 _ _).trans ?_
    simp only [View.readAt_eq_ld, harg1.read_unread, harg9.read_unread]
    rw [View.ld_unit_zero off2, View.ld_unit_zero off2]
  isplitl [H8]
  · iexists _; isplitr
    swap; · iexact H8
    ipureintro
    refine (read_stored _ _ off2 _ _).trans ?_
    simp only [View.readAt_eq_ld, harg1.read_unread]
    rw [View.ld_unit_zero off2]
  iexists _; isplitr; · ipureintro; exact harg9.read_unread _
  iexact H9

end Cert.Sgc

end
-- ==== Proof.Region0.lean ====
/- The first kernel's pipeline, from any contents of the arrays it is entered with.

   Its scratch holds anything before the first point and `h0` from then on: the five operands of `h0` are whole arrays,
   the same at every point. -/
module

public import proofs.«01_k».proof.Proof.Hop1
public import Idealize.ShloMosaic.Lib.Pipeline.RegionsLoop
public import Idealize.ShloMosaic.Lib.Pipeline.FrameSuffix

@[expose] public section

set_option maxRecDepth 16384

noncomputable section

namespace Cert.Sgc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A whole buffer of the core at some contents. -/
abbrev anything (c : Dev nD) (b : Ref sig .tc) : sProp 𝕄 :=
  iprop(∃ f : Buf (Elt F) ((c : Thread nD τ).loc b), ((c : Thread nD τ).loc b) ↦{fullShare} f)

-- what the arrays hold when the pipeline is entered
variable (V : (c : Dev nD) → (b : Ref sig .tc) → Buf (Elt F) ((c : Thread nD τ).loc b))

/-- A window's block at a point, read off its array. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The node features' block is the whole array. -/
theorem blk0_x (c : Dev nD) (t : Fin cfg0.N) : blk0 V c 1 t = V c main_arg0 := by
  have hz : (fun a => win0_1.index t a * main_arg0.ty.shape.size a) = fun _ => 0 := funext fun a => by fin_cases a <;> exact Nat.zero_mul _
  exact Memref.read_access_unit_zero (Elt F) main_arg0 hz (fun a => by rw [congrFun hz a]; simp) (V c main_arg0)

/-- The first weights' block is the whole array. -/
theorem blk0_w1 (c : Dev nD) (t : Fin cfg0.N) : blk0 V c 2 t = V c main_arg2 := by
  have hz : (fun a => win0_2.index t a * main_arg2.ty.shape.size a) = fun _ => 0 := funext fun a => by fin_cases a <;> rfl
  exact Memref.read_access_unit_zero (Elt F) main_arg2 hz (fun a => by rw [congrFun hz a]; simp) (V c main_arg2)

/-- The first bias' block is the whole array. -/
theorem blk0_b1 (c : Dev nD) (t : Fin cfg0.N) : blk0 V c 3 t = V c main_v0 := by
  have hz : (fun a => win0_3.index t a * main_v0.ty.shape.size a) = fun _ => 0 := funext fun a => by fin_cases a <;> rfl
  exact Memref.read_access_unit_zero (Elt F) main_v0 hz (fun a => by rw [congrFun hz a]; simp) (V c main_v0)

/-- The second weights' block is the whole array. -/
theorem blk0_w2 (c : Dev nD) (t : Fin cfg0.N) : blk0 V c 4 t = V c main_arg4 := by
  have hz : (fun a => win0_4.index t a * main_arg4.ty.shape.size a) = fun _ => 0 := funext fun a => by fin_cases a <;> rfl
  exact Memref.read_access_unit_zero (Elt F) main_arg4 hz (fun a => by rw [congrFun hz a]; simp) (V c main_arg4)

/-- The second bias' block is the whole array. -/
theorem blk0_b2 (c : Dev nD) (t : Fin cfg0.N) : blk0 V c 5 t = V c main_v1 := by
  have hz : (fun a => win0_5.index t a * main_v1.ty.shape.size a) = fun _ => 0 := funext fun a => by fin_cases a <;> rfl
  exact Memref.read_access_unit_zero (Elt F) main_v1 hz (fun a => by rw [congrFun hz a]; simp) (V c main_v1)

/-- What the scratch holds from the first point on: both linear layers of the node features. -/
def linear (c : Dev nD) : Vec F S10000x16 .f32 :=
  k0_pay1 (V c main_arg0 : Vec F S10000x128 .f32) (V c main_arg2 : Vec F S128x128 .f32) (V c main_v0 : Vec F S1x128 .f32)
    (V c main_arg4 : Vec F S128x16 .f32) (V c main_v1 : Vec F S1x16 .f32)

/-- The core's other buffers that the first kernel does not touch. -/
def idle0 (c : Dev nD) : sProp 𝕄 :=
  iprop(anything c cc1_stg0_0 ∗ anything c cc1_stg0_1 ∗ anything c cc1_stg1_0 ∗ anything c cc1_stg2_0
    ∗ anything c cc1_stg2_1 ∗ anything c cc1_scratch0)

/-- Before point `n`: the scratch at anything if `n` is 0, at `linear` otherwise. -/
def carried0 (c : Dev nD) : ℕ → sProp 𝕄
  | 0 => iprop(∃ d, owns (c : Thread nD τ) (Memref.whole cc0_scratch0 : Memref sig .tc .vmem S10000x16 .f32) fullShare d)
  | _ + 1 => owns (c : Thread nD τ) (Memref.whole cc0_scratch0 : Memref sig .tc .vmem S10000x16 .f32) fullShare (linear V c)

/-- What holds between points. -/
def between0 (c : Dev nD) (n : ℕ) : sProp 𝕄 :=
  iprop(carried0 V c n ∗ idle0 c ∗ ∃ r, prngReg c r)

/-- The pipeline's proof data: each operand stays as fetched; the two results' blocks are the first hop of the rows
    and their codes. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => k0_pay3 (blk0 V c 0 t) (linear V c)
    | ⟨7, _⟩ => k0_pay2 (blk0 V c 0 t)
  Φ t := between0 V c t.val
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) :
    (dat0 V c).after 6 t = k0_pay3 (blk0 V c 0 t) (linear V c) := by dsimp only [dat0]
theorem after0_7 (c : Dev nD) (t : Fin cfg0.N) : (dat0 V c).after 7 t = k0_pay2 (blk0 V c 0 t) := by dsimp only [dat0]

/-! An operand's buffer holds its block at every point, fetched there or kept from an earlier one. -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)

/-- What the body is called with at a point, window by window, -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 3200000 in
/-- The body at any point. -/
theorem body0 (c : Dev nD) (t : Fin cfg0.N) :
    given0 V c t ⊢ wp frame (wpE (defs₀ (F := F)) Variants.none c none) Set.univ (bodyAt0 t) (fun _ => left0 V c t) := by
  unfold given0 left0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = between0 V c (t.val + 1) from rfl,
    show (dat0 V c).Φ t.castSucc = between0 V c t.val from rfl]
  have hl : linear V c = k0_pay1 (blk0 V c 1 t) (blk0 V c 2 t) (blk0 V c 3 t) (blk0 V c 4 t) (blk0 V c 5 t) := by
    rw [blk0_x, blk0_w1, blk0_b1, blk0_w2, blk0_b2]; rfl
  unfold between0
  rw [show carried0 V c (t.val + 1) = owns (c : Thread nD τ)
    (Memref.whole cc0_scratch0 : Memref sig .tc .vmem S10000x16 .f32) fullShare (linear V c) from rfl]
  by_cases h0 : t.val = 0
  · rw [h0, show carried0 V c 0 = iprop(∃ d, owns (c : Thread nD τ)
      (Memref.whole cc0_scratch0 : Memref sig .tc .vmem S10000x16 .f32) fullShare d) from rfl, hl]
    iintro ⟨⟨HS, Hi, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (hop1_first c (grid0.coords t) _ _ _ _ _ _ _ _ _ _ _ _ _ _ _ _ _ _ ((first0_iff t).mpr h0)
      (blk0 V c 0 t) (blk0 V c 1 t) (blk0 V c 2 t) (blk0 V c 3 t) (blk0 V c 4 t) (blk0 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hi Hg]
    · isplitl [HS]; · iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨n, hn⟩ : ∃ n, t.val = n + 1 := ⟨t.val - 1, by omega⟩
    rw [show carried0 V c t.val = owns (c : Thread nD τ)
      (Memref.whole cc0_scratch0 : Memref sig .tc .vmem S10000x16 .f32) fullShare (linear V c) from by rw [hn]; rfl]
    iintro ⟨⟨HS, Hi, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (hop1_later c (grid0.coords t) _ _ _ _ _ _ _ _ _ _ _ _ _ _ _ _ _ _ (fun h => h0 ((first0_iff t).mp h))
      (blk0 V c 0 t) (blk0 V c 1 t) (blk0 V c 2 t) (blk0 V c 3 t) (blk0 V c 4 t) (blk0 V c 5 t) (linear V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hi Hg]
    · isplitl [HS]; · iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row for the first kernel is its body at the point's buffers. -/
theorem row0 (t : Fin cfg0.N) : defs₀ (F := F) .tc cfg0.body (cfg0.bodyArgs t (cfg0.slots t)) = bodyAt0 t := by
  unfold defs₀; rw [Defs.onTc_tc]

/-- What the pipeline asks of the body, at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

/-- What the launch hands over gives what holds before the first point, -/
theorem enter0 (c : Dev nD) :
    iprop(Pipeline.scopedRest (Ix := Unit) (Name := ℕ) (U := UR sig nD τ) (Lvl := ℕ) (Val := Elt F) spec0 c ∗ ∃ r, prngReg c r)
      ⊢ (between0 V c 0 : sProp 𝕄) := by
  rw [scopedRest0_eq]
  unfold between0 idle0 carried0
  simp only [owns_whole]
  iintro ⟨⟨H1, H2⟩, Hg⟩
  isplitl [H1]; · iexact H1
  isplitl [H2]; · iexact H2
  iexact Hg

/-- and what holds after the last point gives it back. -/
theorem leave0 (c : Dev nD) :
    (between0 V c cfg0.N : sProp 𝕄)
      ⊢ iprop(Pipeline.scopedRest (Ix := Unit) (Name := ℕ) (U := UR sig nD τ) (Lvl := ℕ) (Val := Elt F) spec0 c ∗ ∃ r, prngReg c r) := by
  rw [scopedRest0_eq, show cfg0.N = 24 + 1 from N_0]
  unfold between0 idle0 carried0
  simp only [owns_whole]
  iintro ⟨H1, H2, Hg⟩
  isplitl [H1 H2]
  · isplitl [H1]; · iexists _; iexact H1
    iexact H2
  iexact Hg

end Cert.Sgc

end
-- ==== Proof.Region1.lean ====
/- The second kernel's pipeline, from any contents of the arrays it is entered with.

   Its scratch holds anything before the first point and the transposed first hop from then on: the first hop is one
   whole window, the same at every point. -/
module

public import proofs.«01_k».proof.Proof.Hop2
public import proofs.«01_k».proof.Proof.Region0

@[expose] public section

set_option maxRecDepth 16384

noncomputable section

namespace Cert.Sgc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

-- what the arrays hold when the pipeline is entered
variable (V : (c : Dev nD) → (b : Ref sig .tc) → Buf (Elt F) ((c : Thread nD τ).loc b))

/-- A window's block at a point, read off its array. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The first hop's block is the whole array. -/
theorem blk1_h (c : Dev nD) (t : Fin cfg1.N) : blk1 V c 1 t = V c main_v2_0 := by
  have hz : (fun a => win1_1.index t a * main_v2_0.ty.shape.size a) = fun _ => 0 :=
    funext fun a => by fin_cases a <;> exact Nat.zero_mul _
  exact Memref.read_access_unit_zero (Elt F) main_v2_0 hz (fun a => by rw [congrFun hz a]; simp) (V c main_v2_0)

/-- What the scratch holds from the first point on: the first hop, transposed. -/
def turned (c : Dev nD) : Vec F S16x10000 .bf16 :=
  k1_pay1 (V c main_v2_0 : Vec F S10000x16 .f32)

/-- The core's other buffers that the second kernel does not touch. -/
def idle1 (c : Dev nD) : sProp 𝕄 :=
  iprop(anything c cc0_stg0_0 ∗ anything c cc0_stg0_1 ∗ anything c cc0_stg1_0 ∗ anything c cc0_stg2_0
    ∗ anything c cc0_stg3_0 ∗ anything c cc0_stg4_0 ∗ anything c cc0_stg5_0 ∗ anything c cc0_stg6_0
    ∗ anything c cc0_stg6_1 ∗ anything c cc0_stg7_0 ∗ anything c cc0_stg7_1 ∗ anything c cc0_scratch0)

/-- Before point `n`: the scratch at anything if `n` is 0, at `turned` otherwise. -/
def carried1 (c : Dev nD) : ℕ → sProp 𝕄
  | 0 => iprop(∃ d, owns (c : Thread nD τ) (Memref.whole cc1_scratch0 : Memref sig .tc .vmem S16x10000 .bf16) fullShare d)
  | _ + 1 => owns (c : Thread nD τ) (Memref.whole cc1_scratch0 : Memref sig .tc .vmem S16x10000 .bf16) fullShare (turned V c)

/-- What holds between points. -/
def between1 (c : Dev nD) (n : ℕ) : sProp 𝕄 :=
  iprop(carried1 V c n ∗ idle1 c ∗ ∃ r, prngReg c r)

/-- The pipeline's proof data: the codes and the first hop stay as fetched; the result's block is the second hop of its
    two thousand rows. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay2 (upper (blk1 V c 0 t)) (lower (blk1 V c 0 t)) (turned V c)
  Φ t := between1 V c t.val
  q _ := fullShare
  owed _ := 0

theorem dat1_A (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) :
    (dat1 V c).after 2 t = k1_pay2 (upper (blk1 V c 0 t)) (lower (blk1 V c 0 t)) (turned V c) := by dsimp only [dat1]

/-! An operand's buffer holds its block at every point, fetched there or kept from an earlier one. -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)

/-- What the body is called with at a point, window by window, -/
def given1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 3200000 in
/-- The body at any point. -/
theorem body1 (c : Dev nD) (t : Fin cfg1.N) :
    given1 V c t ⊢ wp frame (wpE (defs₀ (F := F)) Variants.none c none) Set.univ (bodyAt1 t) (fun _ => left1 V c t) := by
  unfold given1 left1 bodyAt1
  simp only [before1_0, before1_1]
  rw [show (dat1 V c).owesAt () t.succ = (dat1 V c).owesAt () t.castSucc from rfl, after1_0, after1_1, after1_2]
  rw [show (dat1 V c).Φ t.succ = between1 V c (t.val + 1) from rfl,
    show (dat1 V c).Φ t.castSucc = between1 V c t.val from rfl]
  have hl : turned V c = k1_pay1 (blk1 V c 1 t) := by
    rw [blk1_h]; rfl
  unfold between1
  rw [show carried1 V c (t.val + 1) = owns (c : Thread nD τ)
    (Memref.whole cc1_scratch0 : Memref sig .tc .vmem S16x10000 .bf16) fullShare (turned V c) from rfl]
  by_cases h0 : t.val = 0
  · rw [h0, show carried1 V c 0 = iprop(∃ d, owns (c : Thread nD τ)
      (Memref.whole cc1_scratch0 : Memref sig .tc .vmem S16x10000 .bf16) fullShare d) from rfl, hl]
    iintro ⟨⟨HS, Hi, Hg⟩, Ho, ⟨%d0, H0⟩, ⟨%d1, H1⟩, ⟨%d2, H2⟩⟩
    iapply (hop2_first c (grid1.coords t) _ _ _ _ _ _ _ _ ((first1_iff t).mpr h0)
      (blk1 V c 0 t) (blk1 V c 1 t) Set.univ _)
    isplitl [H0]; · iexact H0
    isplitl [H1]; · iexact H1
    isplitl [H2]; · iexists _; iexact H2
    isplitl [HS]; · iexact HS
    iintro ⟨H0, H1, H2, HS⟩
    isplitl [HS Hi Hg]
    · isplitl [HS]; · iexact HS
      isplitl [Hi]; · iexact Hi
      iexact Hg
    isplitl [Ho]; · iexact Ho
    isplitl [H0]; · iexact H0
    isplitl [H1]; · iexact H1
    iexact H2
  · obtain ⟨n, hn⟩ : ∃ n, t.val = n + 1 := ⟨t.val - 1, by omega⟩
    rw [show carried1 V c t.val = owns (c : Thread nD τ)
      (Memref.whole cc1_scratch0 : Memref sig .tc .vmem S16x10000 .bf16) fullShare (turned V c) from by rw [hn]; rfl]
    iintro ⟨⟨HS, Hi, Hg⟩, Ho, ⟨%d0, H0⟩, ⟨%d1, H1⟩, ⟨%d2, H2⟩⟩
    iapply (hop2_later c (grid1.coords t) _ _ _ _ _ _ _ _ (fun h => h0 ((first1_iff t).mp h))
      (blk1 V c 0 t) (blk1 V c 1 t) (turned V c) Set.univ _)
    isplitl [H0]; · iexact H0
    isplitl [H1]; · iexact H1
    isplitl [H2]; · iexists _; iexact H2
    isplitl [HS]; · iexact HS
    iintro ⟨H0, H1, H2, HS⟩
    isplitl [HS Hi Hg]
    · isplitl [HS]; · iexact HS
      isplitl [Hi]; · iexact Hi
      iexact Hg
    isplitl [Ho]; · iexact Ho
    isplitl [H0]; · iexact H0
    isplitl [H1]; · iexact H1
    iexact H2

/-- The body table's row for the second kernel is its body at the point's buffers. -/
theorem row1 (t : Fin cfg1.N) : defs₀ (F := F) .tc cfg1.body (cfg1.bodyArgs t (cfg1.slots t)) = bodyAt1 t := by
  unfold defs₀; rw [Defs.onTc_tc]

/-- What the pipeline asks of the body, at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

/-- What the launch hands over gives what holds before the first point, -/
theorem enter1 (c : Dev nD) :
    iprop(Pipeline.scopedRest (Ix := Unit) (Name := ℕ) (U := UR sig nD τ) (Lvl := ℕ) (Val := Elt F) spec1 c ∗ ∃ r, prngReg c r)
      ⊢ (between1 V c 0 : sProp 𝕄) := by
  rw [scopedRest1_eq]
  unfold between1 idle1 carried1
  simp only [owns_whole]
  iintro ⟨⟨H1, H2, H3, H4, H5, H6, H7, H8, H9, H10, H11, H12, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- and what holds after the last point gives it back. -/
theorem leave1 (c : Dev nD) :
    (between1 V c cfg1.N : sProp 𝕄)
      ⊢ iprop(Pipeline.scopedRest (Ix := Unit) (Name := ℕ) (U := UR sig nD τ) (Lvl := ℕ) (Val := Elt F) spec1 c ∗ ∃ r, prngReg c r) := by
  rw [scopedRest1_eq, show cfg1.N = 4 + 1 from N_1]
  unfold between1 idle1 carried1
  simp only [owns_whole]
  iintro ⟨HS, ⟨H1, H2, H3, H4, H5, H6, H7, H8, H9, H10, H11, H12⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact HS
  iexact Hg

end Cert.Sgc

end
-- ==== Proof.Run.lean ====
/- The run of the whole kernel program at any floats: from any memory it terminates, every semaphore back at zero, every
   array of the program at `final`, the contents a fold through the program computes. -/
module

public import proofs.«01_k».proof.Proof.Region1
public import proofs.«01_k».proof.Proof.Gen.KernelIdeal.Regions
public import Idealize.ShloMosaic.Lib.Ring

@[expose] public section

set_option maxRecDepth 16384

noncomputable section

namespace Cert.Sgc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### What the arrays hold between the program's four items -/

/-- As launched. -/
abbrev start (c : Dev nD) : Valuation τ sig (Elt F) := fun b => m ((c : Dev nD), b)
/-- With the two biases laid out as rows: the first kernel is entered with these. -/
abbrev rowed (c : Dev nD) : Valuation τ sig (Elt F) := StableHlo.after hostOps0 (start m c)
/-- The same, array by array. -/
abbrev in0 : (c : Dev nD) → (b : Ref sig .tc) → Buf (Elt F) ((c : Thread nD τ).loc b) := fun c b => rowed m c b
/-- After the first kernel. -/
def hop1ed (c : Dev nD) : Valuation τ sig (Elt F) :=
  Pipeline.withArrays spec0 c (rowed m c) fun w => (dat0 (in0 m) c).arrAt w cfg0.N
/-- The same, array by array: the second kernel is entered with these. -/
abbrev in1 : (c : Dev nD) → (b : Ref sig .tc) → Buf (Elt F) ((c : Thread nD τ).loc b) := fun c b => hop1ed m c b
/-- After the second kernel. -/
def hop2ed (c : Dev nD) : Valuation τ sig (Elt F) :=
  Pipeline.withArrays spec1 c (hop1ed m c) fun w => (dat1 (in1 m) c).arrAt w cfg1.N
/-- The same, array by array. -/
abbrev out1 : (c : Dev nD) → (b : Ref sig .tc) → Buf (Elt F) ((c : Thread nD τ).loc b) := fun c b => hop2ed m c b
/-- At the return, the second kernel's result laid out as the output. -/
abbrev final (c : Dev nD) : Valuation τ sig (Elt F) := StableHlo.after hostOps2 (hop2ed m c)

theorem hop1ed_arr (c : Dev nD) (w : Fin cfg0.W) :
    hop1ed m c (Proc.devRef .tc (Pipeline.arrRef spec0 w)) = (dat0 (in0 m) c).arrAt w cfg0.N := by
  unfold hop1ed; exact Pipeline.withArrays_arr spec0 launch0.win.arr_inj c _ _ w

theorem hop1ed_of_ne (c : Dev nD) (b : Ref sig .tc) (hb : ∀ w, Pipeline.arrRef spec0 w ≠ b) :
    hop1ed m c (Proc.devRef .tc b) = rowed m c (Proc.devRef .tc b) := by
  unfold hop1ed; exact Pipeline.withArrays_of_ne spec0 c _ _ b hb

theorem hop2ed_arr (c : Dev nD) (w : Fin cfg1.W) :
    hop2ed m c (Proc.devRef .tc (Pipeline.arrRef spec1 w)) = (dat1 (in1 m) c).arrAt w cfg1.N := by
  unfold hop2ed; exact Pipeline.withArrays_arr spec1 launch1.win.arr_inj c _ _ w

theorem hop2ed_of_ne (c : Dev nD) (b : Ref sig .tc) (hb : ∀ w, Pipeline.arrRef spec1 w ≠ b) :
    hop2ed m c (Proc.devRef .tc b) = hop1ed m c (Proc.devRef .tc b) := by
  unfold hop2ed; exact Pipeline.withArrays_of_ne spec1 c _ _ b hb

/-- The first kernel changes only its two results. -/
theorem hop1ed_of (c : Dev nD) (r : Ref sig .tc) (h : ∀ w : Fin cfg0.W, Pipeline.arrRef spec0 w = r → (cfg0.win w).isOut = false) :
    hop1ed m c (Proc.devRef .tc r) = rowed m c (Proc.devRef .tc r) := by
  by_cases hw : ∃ w : Fin cfg0.W, Pipeline.arrRef spec0 w = r
  · obtain ⟨w, rfl⟩ := hw
    exact (hop1ed_arr m c w).trans (((dat0 (in0 m) c).arrAt_in w (h w rfl) _).trans (dat0_A (in0 m) c w))
  · exact hop1ed_of_ne m c r fun w e => hw ⟨w, e⟩

/-- The second kernel changes only its result. -/
theorem hop2ed_of (c : Dev nD) (r : Ref sig .tc) (h : ∀ w : Fin cfg1.W, Pipeline.arrRef spec1 w = r → (cfg1.win w).isOut = false) :
    hop2ed m c (Proc.devRef .tc r) = hop1ed m c (Proc.devRef .tc r) := by
  by_cases hw : ∃ w : Fin cfg1.W, Pipeline.arrRef spec1 w = r
  · obtain ⟨w, rfl⟩ := hw
    exact (hop2ed_arr m c w).trans (((dat1 (in1 m) c).arrAt_in w (h w rfl) _).trans (dat1_A (in1 m) c w))
  · exact hop2ed_of_ne m c r fun w e => hw ⟨w, e⟩

/-- The program's arguments. -/
abbrev args : List (Ref sig .tc) := [main_arg0, main_arg1, main_arg2, main_arg3, main_arg4, main_arg5]

theorem args_rows : ∀ a ∈ args, a ∉ hostOps0_W := ListAll.forall_mem_of_all_decide (by decide +kernel)
theorem args_layout : ∀ a ∈ args, a ∉ hostOps2_W := ListAll.forall_mem_of_all_decide (by decide +kernel)
theorem args_in0 : ∀ a ∈ args, ∀ w : Fin cfg0.W, Pipeline.arrRef spec0 w = a → (cfg0.win w).isOut = false :=
  ListAll.forall_mem_of_all_decide (by decide +kernel)
theorem args_in1 : ∀ a ∈ args, ∀ w : Fin cfg1.W, Pipeline.arrRef spec1 w = a → (cfg1.win w).isOut = false :=
  ListAll.forall_mem_of_all_decide (by decide +kernel)

theorem args_held : ∀ a ∈ args, ¬ (Proc.devRef .tc a : DevRef τ sig).isScoped :=
  ListAll.forall_mem_of_all_decide (by decide +kernel)

/-- The two layouts write no argument. -/
theorem rowed_arg (c : Dev nD) (a : Ref sig .tc) (ha : a ∈ args) : rowed m c (Proc.devRef .tc a) = m ((c : Thread nD τ).loc a) :=
  StableHlo.after_of_writes_sub hostOps0 _ hostOps0_writes (args_rows a ha)

/-- The arguments end as launched. -/
theorem final_arg (c : Dev nD) (a : Ref sig .tc) (ha : a ∈ args) : final m c (Proc.devRef .tc a) = m ((c : Thread nD τ).loc a) :=
  (StableHlo.after_of_writes_sub hostOps2 _ hostOps2_writes (args_layout a ha)).trans
    ((hop2ed_of m c a (args_in1 a ha)).trans ((hop1ed_of m c a (args_in0 a ha)).trans (rowed_arg m c a ha)))

/-! ### The program's items as segments -/

/-- No pipeline takes a table. -/
abbrev untabled : (p : Fin 2) → (pcfgs (F := F) p).Adm := fun p => (cfgs p).toPCfg_adm

/-- Each pipeline's proof data, at the contents it is entered with. -/
def datas : (p : Fin 2) → (c : Dev nD) → Dat τ (Elt F) Unit ℕ (UR sig nD τ) ℕ (Pipeline.pin (pcfgs (F := F)) untabled p) c
  | ⟨0, _⟩ => fun c => dat0 (in0 m) c
  | ⟨1, _⟩ => fun c => dat1 (in1 m) c

abbrev noLevels : GSem nD τ sig → Finset Unit := fun _ => ∅
abbrev flat : GSem nD τ sig → Unit → ℕ := fun _ _ => 0

/-- Beside the arrays a core holds its generator register and owes nothing. -/
abbrev beside (c : Dev nD) : sProp 𝕄 :=
  iprop((∃ r, prngReg c r) ∗ ∃ W, owes (c : Thread nD τ) (0 : CellTallies nD τ sig Unit) W)

/-- A core's thread state with its arrays at `W`. -/
abbrev holding (W : Dev nD → Valuation τ sig (Elt F)) (c : Dev nD) : sProp 𝕄 :=
  iprop(StableHlo.held (c : Thread nD τ) (Pipeline.ucRefs τ sig) (W c) ∗ beside c)

/-- A stretch of array operations as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels flat :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem held_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- The first kernel as a segment. -/
def region0 : Pipeline.RegionSeg (pcfgs (F := F)) untabled (datas m) () defs₀ Variants.none noLevels flat 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels flat 0 fun _ _ => rfl
  pre := holding (rowed m)
  post := holding (hop1ed m)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) untabled (datas m) launch0.win launch0.arr_whole c
      ((datas m 0 c).share_full fun _ => rfl) (in0 m c) (dat0_A (in0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 0 c).Φ 0 = between0 (in0 m) c 0 from rfl]
    iintro ⟨Hp, -, Hr⟩
    iapply (enter0 (in0 m) c)
    isplitl [Hr]; · iexact Hr
    iexact Hp
  hout c := by
    rw [Pipeline.ownSems0_none, show (datas m 0 c).Φ (Fin.last _) = between0 (in0 m) c cfg0.N from rfl]
    iintro H
    ihave H := (leave0 (in0 m) c) $$ H
    icases H with ⟨Hr, Hp⟩
    isplitl [Hp]; · iexact Hp
    isplitr; · iempintro
    iexact Hr
  hexit c := by
    have hjoin := Pipeline.unscopedBufs_of_arrays (p := 0) (pcfgs (F := F)) untabled (Ix := Unit) (Name := ℕ) (U := UR sig nD τ) (Lvl := ℕ)
      launch0.win launch0.arr_whole c (datas m) ((datas m 0 c).share_full fun _ => rfl)
      (in0 m c) (in1 m c) ((datas m 0 c).arrAt · cfg0.N) (fun w => (hop1ed_arr m c w).symm)
      (fun b hb => hop1ed_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel as a segment. -/
def region1 : Pipeline.RegionSeg (pcfgs (F := F)) untabled (datas m) () defs₀ Variants.none noLevels flat 1 where
  win := launch1.win.to₀
  block_pos := launch1.block_pos
  stage_whole := launch1.stage_whole
  K := PEmpty
  osem k := k.elim
  ho := Pipeline.OwnSemFacts.none _
  hbody c := (obligation1 (in1 m) c).loose
  hwaits := Pipeline.hwaits_of_owed_zero _ _ _ _ noLevels flat 1 fun _ _ => rfl
  pre := holding (hop1ed m)
  post := holding (hop2ed m)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) untabled (datas m) launch1.win launch1.arr_whole c
      ((datas m 1 c).share_full fun _ => rfl) (in1 m c) (dat1_A (in1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = between1 (in1 m) c 0 from rfl]
    iintro ⟨Hp, -, Hr⟩
    iapply (enter1 (in1 m) c)
    isplitl [Hr]; · iexact Hr
    iexact Hp
  hout c := by
    rw [Pipeline.ownSems0_none, show (datas m 1 c).Φ (Fin.last _) = between1 (in1 m) c cfg1.N from rfl]
    iintro H
    ihave H := (leave1 (in1 m) c) $$ H
    icases H with ⟨Hr, Hp⟩
    isplitl [Hp]; · iexact Hp
    isplitr; · iempintro
    iexact Hr
  hexit c := by
    have hjoin := Pipeline.unscopedBufs_of_arrays (p := 1) (pcfgs (F := F)) untabled (Ix := Unit) (Name := ℕ) (U := UR sig nD τ) (Lvl := ℕ)
      launch1.win launch1.arr_whole c (datas m) ((datas m 1 c).share_full fun _ => rfl)
      (in1 m c) (out1 m c) ((datas m 1 c).arrAt · cfg1.N) (fun w => (hop2ed_arr m c w).symm)
      (fun b hb => hop2ed_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four items in order. -/
abbrev items : List (Pipeline.Seg (pcfgs (F := F)) untabled (datas m) () defs₀ Variants.none noLevels flat) :=
  [ .host (stretch hostOps0 hostOps0_sub hostOps0_fresh (start m)),
    .region (region0 m),
    .region (region1 m),
    .host (stretch hostOps2 hostOps2_sub hostOps2_fresh (hop2ed m)) ]

theorem main_items (c : Dev nD) : main (F := F) c = Pipeline.Seg.run (items m) := (main_chain c).trans (by chain_rfl)

set_option backward.isDefEq.respectTransparency.types false in
/-- The whole run: it terminates, every array of the program ends at `final` and every semaphore at zero. -/
theorem whole_run : θ_run defs (onTc (τ := τ) (main (F := F))) ⟨m, fun _ => 0, ρ⟩ (fun r =>
      (∀ c : Dev nD, ∀ b ∈ Pipeline.ucRefs τ sig, r.2.mem ((c : Dev nD), b) = final m c b) ∧ r.2.sem = fun _ => 0) :=
  Pipeline.θ_run_regions_kit_sems (pcfgs (F := F)) untabled (datas m) () cellOf_inj emb₁ defs₀ Variants.none noLevels flat m ρ main
    (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := holding (start m))
    (Tₙ := fun c => iprop(StableHlo.held (c : Thread nD τ) (Pipeline.ucRefs τ sig) (final m c) ∗ ∃ r, prngReg c r))
    (hch := ⟨fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevels flat fun c => ?_
      rw [show unscopedBufs c (fun b => m ((c : Thread nD τ).loc b)) = StableHlo.held (c : Thread nD τ) (Pipeline.ucRefs τ sig) (start m c)
        from Pipeline.unscopedBufs_held c (start m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Dev nD), b) = final m c b)
    (hfin := fun c s' => by
      iintro ⟨⟨Hh, -⟩, HSI⟩
      unfold StableHlo.held
      imodintro
      iapply (pointsTo_read_all (Pipeline.ucRefs τ sig) (fun b => (((c : Thread nD τ)).1, b)) (final m c) s')
      isplitl [Hh] <;> iassumption)
    (hQ := fun s h hz => ⟨h, funext fun g => hz g (.inr (regions_no_unscoped g.2))⟩)

/-- The frame: the arguments end as launched and every semaphore at zero. -/
theorem quiet : θ_run defs (onTc (τ := τ) (main (F := F))) ⟨m, fun _ => 0, ρ⟩ (fun r =>
      (∀ c : Dev nD, ∀ a ∈ args, r.2.mem ((c.tc : Thread nD τ).loc a) = m ((c.tc : Thread nD τ).loc a))
      ∧ r.2.sem = fun _ => 0) :=
  (θ_run defs _ _).mono (fun _ h => ⟨fun c a ha =>
    (h.1 c _ (held_mem a (args_held a ha))).trans (final_arg m c a ha), h.2⟩) (whole_run m ρ)

end Cert.Sgc

end
-- ==== Proof.Frames.lean ====
/- Both programs' frames from the one run: the idealized program differs from the printed one only in a constant given by
   name, so the printed program is the idealized one with every named constant read as its bits. -/
module

public import proofs.«01_k».proof.Defs
public import proofs.«01_k».proof.Proof.Run
public import proofs.«01_k».proof.Proof.Gen.Kernel

@[expose] public section

set_option maxRecDepth 16384

noncomputable section

namespace Cert.Sgc

open Idealize.ShloMosaic Idealize.ShloMosaic.TcCoe Idealize.SL.Sem

/-- A named constant read as its bits. -/
@[reducible] def byBits : Named Bits where
  named _ _ {φ} b := Scalar.ofBits φ b

/-- The second body reads the named constant, and by its bits is the printed body. -/
theorem printed_hop2 : @Cert.KernelIdeal.cc1__hop2_body Bits _ byBits Cert.KernelIdeal.Gen.facts
    = @Cert.Kernel.cc1__hop2_body Bits _ Cert.Kernel.Gen.facts := rfl

/-- The body tables are the same. -/
theorem printed_defs₀ : @Cert.KernelIdeal.defs₀ Bits _ byBits Cert.KernelIdeal.Gen.facts
    = @Cert.Kernel.defs₀ Bits _ Cert.Kernel.Gen.facts := by chain_rfl

/-- So are the programs' tables. -/
theorem printed_defs : @Cert.KernelIdeal.defs Bits _ byBits Cert.KernelIdeal.Gen.facts
    = @Cert.Kernel.defs Bits _ Cert.Kernel.Gen.facts := by
  unfold Cert.KernelIdeal.defs Cert.Kernel.defs
  rw [printed_defs₀]
  rfl

/-- The idealized program's frame. -/
theorem frame_idealized : Cert.quiescent_KernelIdeal := fun m g _ =>
  (θ_run (Cert.KernelIdeal.defs (F := Ideal)) _ _).mono
    (fun _ h => ⟨fun c => ⟨h.1 c _ (by decide), h.1 c _ (by decide), h.1 c _ (by decide), h.1 c _ (by decide),
      h.1 c _ (by decide), h.1 c _ (by decide)⟩, h.2⟩) (quiet (F := Ideal) m g)

/-- The printed program's frame. -/
theorem frame_printed : Cert.quiescent_Kernel := fun m g _ => by
  rw [← printed_defs]
  exact (θ_run (@Cert.KernelIdeal.defs Bits _ byBits Cert.KernelIdeal.Gen.facts) _ _).mono
    (fun _ h => ⟨fun c => ⟨h.1 c _ (by decide), h.1 c _ (by decide), h.1 c _ (by decide), h.1 c _ (by decide),
      h.1 c _ (by decide), h.1 c _ (by decide)⟩, h.2⟩) (@quiet Bits _ byBits m g)

end Cert.Sgc

end
-- ==== Proof.Quant.lean ====
/- The arithmetic of the claim on extended reals, free of any program: the four-bit code of an entry, the real number it
   stands for, a scale taken out of a sum, and the log-softmax of a row. -/
module

public import Idealize.ShloMosaic.PureOps.Ideal.Laws
public import Idealize.ShloMosaic.Lib.Pointwise

@[expose] public section

noncomputable section

namespace Cert.Sgc

open Idealize.ShloMosaic

/-- The binary32 word of 150000. -/
theorem word_scale : Ideal.ofBits .f32 0x48127C00#32 = ((150000 : ℝ) : EReal) := by
  simp [Ideal.ofBits, Ideal.ieee, -EReal.coe_mul]
  norm_num

/-- The binary32 word of 15. -/
theorem word_top_code : Ideal.ofBits .f32 0x41700000#32 = ((15 : ℝ) : EReal) := by
  simp [Ideal.ofBits, Ideal.ieee, -EReal.coe_mul]
  norm_num

/-- The binary32 word of minus infinity. -/
theorem word_lowest : Ideal.ofBits .f32 0xFF800000#32 = ⊥ := by
  simp [Ideal.ofBits, Ideal.ieee]

/-- An entry scaled by 150000 and rounded to the nearest integer, ties to even. -/
def rounded (a : EReal) : EReal :=
  Ideal.liftRound Ideal.roundHalfEven (a * Ideal.ofBits .f32 0x48127C00#32)

/-- The four-bit code of an entry. -/
def code (a : EReal) : BitVec 4 := Ideal.fptoui 4 (rounded a)

/-- The rounded entry held between 0 and 15. -/
def clipped (a : EReal) : EReal :=
  min (Ideal.ofBits .f32 0x41700000#32) (max (Ideal.ofBits .f32 0x00000000#32) (rounded a))

/-- An integer in range, through four bits and back. -/
theorem toNat_ofInt_four (n : ℤ) (h0 : 0 ≤ n) (h1 : n ≤ 15) : ((BitVec.ofInt 4 n).toNat : ℝ) = (n : ℝ) := by
  have h : ((BitVec.ofInt 4 n).toNat : ℤ) = n := by
    rw [BitVec.toNat_ofInt]
    norm_num
    omega
  exact_mod_cast congrArg (fun z : ℤ => (z : ℝ)) h

/-- The code of an entry, read back as a number, is the clipped entry: for a finite entry and at both infinities. -/
theorem code_value (a : EReal) : (((code a).toNat : ℝ) : EReal) = clipped a := by
  unfold code clipped rounded
  rw [word_top_code, Ideal.ofBits_zero_f32]
  generalize a * Ideal.ofBits .f32 0x48127C00#32 = y
  unfold Ideal.fptoui
  induction y with
  | bot =>
    rw [show Ideal.liftRound Ideal.roundHalfEven ⊥ = ⊥ from rfl, Ideal.toIntClamped_bot]
    simp
  | top =>
    rw [show Ideal.liftRound Ideal.roundHalfEven ⊤ = ⊤ from rfl, Ideal.toIntClamped_top]
    rw [toNat_ofInt_four _ (by norm_num) (by norm_num)]
    norm_num
  | coe y =>
    rw [show Ideal.liftRound Ideal.roundHalfEven (y : EReal) = (((Ideal.roundHalfEven y : ℤ) : ℝ) : EReal) from rfl,
      Ideal.toIntClamped_coe]
    generalize Ideal.roundHalfEven y = n
    have grows : Monotone (fun z : ℤ => ((z : ℝ) : EReal)) := fun a b h =>
      EReal.coe_le_coe_iff.mpr (Int.cast_le.mpr h)
    have h0 : (0 : EReal) = (fun z : ℤ => ((z : ℝ) : EReal)) 0 := by simp
    have h15 : ((15 : ℝ) : EReal) = (fun z : ℤ => ((z : ℝ) : EReal)) 15 := by norm_num
    rw [Int.floor_intCast, Int.ceil_intCast, ite_self, toNat_ofInt_four _ (by omega) (by norm_num), h0, h15]
    show (fun z : ℤ => ((z : ℝ) : EReal)) _ = min _ (max _ ((fun z : ℤ => ((z : ℝ) : EReal)) n))
    rw [← grows.map_max, ← grows.map_min]
    congr 2
    norm_num
    omega

/-- A nonnegative finite scale goes into a sum. -/
theorem sum_scaled {n : ℕ} (f : Fin n → EReal) (s : ℝ) (hs : 0 ≤ s) :
    (∑ k, f k) * (s : EReal) = ∑ k, f k * (s : EReal) := by
  have h : ∀ t : Finset (Fin n), (∑ k ∈ t, f k) * (s : EReal) = ∑ k ∈ t, f k * (s : EReal) := by
    intro t
    induction t using Finset.induction_on with
    | empty => simp
    | insert i t hi ih =>
      rw [Finset.sum_insert hi, Finset.sum_insert hi,
        EReal.right_distrib_of_nonneg_of_ne_top (by exact_mod_cast hs) (EReal.coe_ne_top s), ih]
  exact h _

/-- A sum of codes weighted by features, scaled afterwards, is the sum of the decoded entries times the features. -/
theorem decoded_sum {n : ℕ} (h q : Fin n → EReal) :
    (∑ k, h k * q k) * ((1 / 150000 : ℝ) : EReal) =
      ∑ k, Ideal.div (q k) (Ideal.ofBits .f32 0x48127C00#32) * h k := by
  rw [sum_scaled _ _ (by norm_num)]
  refine Finset.sum_congr rfl fun k _ => ?_
  rw [word_scale, Ideal.div_coe (by norm_num), mul_comm (h k) (q k), mul_right_comm]

/-- The largest of a row's sixteen entries. -/
def peak (z : Fin 16 → EReal) : EReal := Finset.univ.fold max (Ideal.ofBits .f32 0xFF800000#32) z

/-- The log-softmax of a row of sixteen entries. -/
def logSoftmax (z : Fin 16 → EReal) (c : Fin 16) : EReal :=
  z c - peak z - Ideal.log (∑ x, Ideal.exp (z x - peak z))

end Cert.Sgc

end
-- ==== Proof.Blocks.lean ====
/- What one block of each kernel computes, entry by entry. -/
module

public import proofs.«01_k».proof.Proof.Quant
public import proofs.«01_k».proof.Proof.Gen.KernelIdeal.Skeleton
public import Idealize.ShloMosaic.Lib.Pointwise

@[expose] public section

set_option maxRecDepth 16384

noncomputable section

namespace Cert.Sgc

open Cert.KernelIdeal Cert.KernelIdeal.Gen
open Idealize.ShloMosaic

/-- The first kernel's two linear layers at an entry. -/
theorem layers_entry (x : Vec Ideal S10000x128 .f32) (w1 : Vec Ideal S128x128 .f32) (b1 : Vec Ideal S1x128 .f32)
    (w2 : Vec Ideal S128x16 .f32) (b2 : Vec Ideal S1x16 .f32) (r : Fin 10000) (c : Fin 16) :
    k0_pay1 (F := Ideal) x w1 b1 w2 b2 (ix2 r c) =
      ∑ h : Fin 128, (∑ f : Fin 128, x (ix2 r f) * w1 (ix2 f h) + b1 (ix2 0 h)) * w2 (ix2 h c) + b2 (ix2 0 c) := by
  pointwise [k0_pay1]

/-- The first kernel's block of codes at an entry. -/
theorem codes_entry (a : Vec Ideal S400x10000 .f32) (r : Fin 400) (k : Fin 10000) :
    k0_pay2 (F := Ideal) a (ix2 r k) = code (a (ix2 r k)) := by
  pointwise [k0_pay2]
  rfl

/-- The first kernel's block of the first hop at an entry. -/
theorem hop_entry (a : Vec Ideal S400x10000 .f32) (h : Vec Ideal S10000x16 .f32) (r : Fin 400) (c : Fin 16) :
    k0_pay3 (F := Ideal) a h (ix2 r c) = ∑ k : Fin 10000, a (ix2 r k) * h (ix2 k c) := by
  pointwise [k0_pay3]

/-- The features turned over, at an entry. -/
theorem turned_entry (h : Vec Ideal S10000x16 .f32) (c : Fin 16) (k : Fin 10000) :
    k1_pay1 (F := Ideal) h (ix2 c k) = h (ix2 k c) := by
  pointwise [k1_pay1]

/-- The second kernel's block at an entry whose node's codes are `q`: the log-softmax of the scaled sums. -/
theorem out_entry (u l : Vec Ideal S1000x10000 .i4) (h : Vec Ideal S16x10000 .bf16) (q : Fin 10000 → BitVec 4)
    (c : Fin 16) (j : Fin 2000)
    (hq : ∀ k, q k = if hj : j.val < 1000 then u (ix2 ⟨j.val, hj⟩ k) else l (ix2 ⟨j.val - 1000, by omega⟩ k)) :
    k1_pay2 (F := Ideal) u l h (ix3 0 c j) =
      logSoftmax (fun x => (∑ k : Fin 10000, h (ix2 x k) * (((q k).toNat : ℝ) : EReal)) * ((1 / 150000 : ℝ) : EReal)) c := by
  obtain rfl : q = _ := funext hq
  have hn : Named.named (F := Ideal) κ "inv_qscale" (φ := .f32) 0x36DFB23B#32 = ((1 / 150000 : ℝ) : EReal) := rfl
  unfold logSoftmax peak
  by_cases hj : j.val < 1000
  · pointwise [k1_pay2]
    simp only [hj, ↓reduceDIte, hn]
    rfl
  · pointwise [k1_pay2]
    simp only [hj, ↓reduceDIte, hn]
    rfl

end Cert.Sgc

end
-- ==== Proof.Arrays.lean ====
/- What each kernel's result arrays hold when its grid is done, entry by entry: the first hop and the codes after the first
   kernel, the log-softmax of the second hop after the second. -/
module

public import proofs.«01_k».proof.Proof.Blocks
public import proofs.«01_k».proof.Proof.Region1
public import Idealize.ShloMosaic.Lib.Pipeline.Value

@[expose] public section

set_option maxRecDepth 16384

noncomputable section

namespace Cert.Sgc

open Cert.KernelIdeal Cert.KernelIdeal.Gen
open Idealize.ShloMosaic Idealize.ShloMosaic.TcCoe
open Idealize.SL Idealize.SL.Sem
open Idealize.ShloMosaic.Pipeline (Dat)

-- what the arrays hold when the pipeline is entered
variable (V : (c : Dev nD) → (b : Ref sig .tc) → Buf (Elt Ideal) ((c : Thread nD τ).loc b))

/-! ### Where the blocks lie -/

/-- The first kernel's moving windows are at the point's row of blocks. -/
theorem at0 : ∀ t : Fin grid0.N, (win0_0.index t 0 = t.val ∧ win0_0.index t 1 = 0) ∧
    (win0_6.index t 0 = t.val ∧ win0_6.index t 1 = 0) ∧ (win0_7.index t 0 = t.val ∧ win0_7.index t 1 = 0) := by
  decide +kernel

/-- The second kernel's moving windows are at the point's row of blocks. -/
theorem at1 : ∀ t : Fin grid1.N, (win1_0.index t 0 = t.val ∧ win1_0.index t 1 = 0) ∧
    (win1_2.index t 0 = t.val ∧ win1_2.index t 1 = 0 ∧ win1_2.index t 2 = 0) := by
  decide +kernel

/-- Row `r` of the first kernel's block at point `t`. -/
abbrev node0 (t : Fin grid0.N) (r : Fin 400) : Fin 10000 :=
  ⟨t.val * 400 + r.val, by have : t.val < 25 := t.isLt; omega⟩

/-- Row `r` of the second kernel's block at point `t`. -/
abbrev node1 (t : Fin grid1.N) (r : Fin 2000) : Fin 10000 :=
  ⟨t.val * 2000 + r.val, by have : t.val < 5 := t.isLt; omega⟩

/-- The adjacency's block at an entry. -/
theorem blk0_adj (c : Dev nD) (t : Fin grid0.N) (r : Fin 400) (k : Fin 10000) :
    (blk0 V c 0 t : Vec Ideal S400x10000 .f32) (ix2 r k) = (V c main_arg1 : Vec Ideal S10000x10000 .f32) (ix2 (node0 t r) k) := by
  unfold blk0
  rw [View.read_apply]
  show V c main_arg1 _ = V c main_arg1 _
  congr 1
  funext a
  apply Fin.ext
  obtain ⟨⟨e0, e1⟩, -⟩ := at0 t
  match a with
  | ⟨0, _⟩ => show win0_0.index t 0 * 400 + 1 * r.val = t.val * 400 + r.val; rw [e0]; omega
  | ⟨1, _⟩ => show win0_0.index t 1 * 10000 + 1 * k.val = k.val; rw [e1]; omega

/-- The codes' block at an entry. -/
theorem blk1_codes (c : Dev nD) (t : Fin grid1.N) (r : Fin 2000) (k : Fin 10000) :
    (blk1 V c 0 t : Vec Ideal S2000x10000 .i4) (ix2 r k) = (V c main_v2_1 : Vec Ideal S10000x10000 .i4) (ix2 (node1 t r) k) := by
  unfold blk1
  rw [View.read_apply]
  show V c main_v2_1 _ = V c main_v2_1 _
  congr 1
  funext a
  apply Fin.ext
  obtain ⟨⟨e0, e1⟩, -⟩ := at1 t
  match a with
  | ⟨0, _⟩ => show win1_0.index t 0 * 2000 + 1 * r.val = t.val * 2000 + r.val; rw [e0]; omega
  | ⟨1, _⟩ => show win1_0.index t 1 * 10000 + 1 * k.val = k.val; rw [e1]; omega

/-- The first thousand rows of a block of codes, at an entry. -/
theorem upper_entry (q : Vec Ideal S2000x10000 .i4) (r : Fin 1000) (k : Fin 10000) :
    upper (F := Ideal) q (ix2 r k) = q (ix2 ⟨r.val, by omega⟩ k) := by
  show q _ = q _
  congr 1
  funext a
  apply Fin.ext
  match a with
  | ⟨0, _⟩ => show 0 + 1 * r.val = r.val; omega
  | ⟨1, _⟩ => show 0 + 1 * k.val = k.val; omega

/-- The last thousand rows of a block of codes, at an entry. -/
theorem lower_entry (q : Vec Ideal S2000x10000 .i4) (r : Fin 1000) (k : Fin 10000) :
    lower (F := Ideal) q (ix2 r k) = q (ix2 ⟨1000 + r.val, by omega⟩ k) := by
  show q _ = q _
  congr 1
  funext a
  apply Fin.ext
  match a with
  | ⟨0, _⟩ => show 1000 + 1 * r.val = 1000 + r.val; omega
  | ⟨1, _⟩ => show 0 + 1 * k.val = k.val; omega

/-! ### The first kernel's results -/

/-- One hop: every node's sum of its neighbours' features. -/
def hopOf (a : Vec Ideal S10000x10000 .f32) (h : Vec Ideal S10000x16 .f32) : Vec Ideal S10000x16 .f32 := fun i =>
  ∑ k : Fin 10000, a (ix2 (i 0) k) * h (ix2 k (i 1))

/-- The first hop of every node. -/
def hopped (c : Dev nD) : Vec Ideal S10000x16 .f32 := hopOf (V c main_arg1) (linear V c)

/-- The code of every entry of the adjacency. -/
def coded (c : Dev nD) : Vec Ideal S10000x10000 .i4 := fun i =>
  code ((V c main_arg1 : Vec Ideal S10000x10000 .f32) i)

theorem hopped_block (c : Dev nD) (t : Fin cfg0.N) :
    (dat0 V c).flushed 6 t = ((cfg0.win 6).blk t).view.read (Elt Ideal) (hopped V c) := by
  show (cfg0.win 6).cut (grid0.coords t) ((dat0 V c).after 6 t) = _
  rw [after0_6]
  funext j
  rw [View.read_apply]
  show k0_pay3 (F := Ideal) (blk0 V c 0 t) (linear V c) j = hopped V c _
  obtain ⟨r, x, rfl⟩ : ∃ (r : Fin 400) (x : Fin 16), j = ix2 r x := ⟨j 0, j 1, eq_ix2 j⟩
  rw [hop_entry]
  simp only [blk0_adj]
  obtain ⟨-, ⟨e0, e1⟩, -⟩ := at0 t
  have hi : ((cfg0.win 6).blk t).view.emb (ix2 r x) = (ix2 (node0 t r) x : S10000x16.Idx) := by
    funext a
    apply Fin.ext
    match a with
    | ⟨0, _⟩ => show win0_6.index t 0 * 400 + 1 * r.val = t.val * 400 + r.val; rw [e0]; omega
    | ⟨1, _⟩ => show win0_6.index t 1 * 16 + 1 * x.val = x.val; rw [e1]; omega
  exact (congrArg (hopped V c) hi).symm

/-- The first hop's array at the end of the first kernel. -/
theorem hopped_array (c : Dev nD) : (dat0 V c).arrAt 6 cfg0.N = hopped V c :=
  (dat0 V c).arrAt_eq_of_cover 6 (hopped V c) (fun t _ => hopped_block V c t) fun i => by
      let t : Fin grid0.N := ⟨(i 0).val / 400, by have : (i 0).val < 10000 := (i 0).isLt; show _ < 25; omega⟩
      refine ⟨t, flush0_6 t, ?_⟩
      show i ∈ ((View.whole main_v2_0).slice (win0_6.rect t)).set
      rw [View.set_slice_whole, Rect.mem_set_unit]
      have h0 : (i 0 : Nat) < 10000 := (i 0).isLt
      have h1 : (i 1 : Nat) < 16 := (i 1).isLt
      obtain ⟨-, ⟨e0, e1⟩, -⟩ := at0 t
      intro a
      match a with
      | ⟨0, _⟩ => show win0_6.index t 0 * 400 ≤ (i 0 : Nat) ∧ (i 0 : Nat) < win0_6.index t 0 * 400 + 400; rw [e0]; dsimp only [t]; omega
      | ⟨1, _⟩ => show win0_6.index t 1 * 16 ≤ (i 1 : Nat) ∧ (i 1 : Nat) < win0_6.index t 1 * 16 + 16; rw [e1]; omega

theorem coded_block (c : Dev nD) (t : Fin cfg0.N) :
    (dat0 V c).flushed 7 t = ((cfg0.win 7).blk t).view.read (Elt Ideal) (coded V c) := by
  show (cfg0.win 7).cut (grid0.coords t) ((dat0 V c).after 7 t) = _
  rw [after0_7]
  funext j
  rw [View.read_apply]
  show k0_pay2 (F := Ideal) (blk0 V c 0 t) j = coded V c _
  obtain ⟨r, k, rfl⟩ : ∃ (r : Fin 400) (k : Fin 10000), j = ix2 r k := ⟨j 0, j 1, eq_ix2 j⟩
  rw [codes_entry, blk0_adj]
  obtain ⟨-, -, e0, e1⟩ := at0 t
  have hi : ((cfg0.win 7).blk t).view.emb (ix2 r k) = (ix2 (node0 t r) k : S10000x10000.Idx) := by
    funext a
    apply Fin.ext
    match a with
    | ⟨0, _⟩ => show win0_7.index t 0 * 400 + 1 * r.val = t.val * 400 + r.val; rw [e0]; omega
    | ⟨1, _⟩ => show win0_7.index t 1 * 10000 + 1 * k.val = k.val; rw [e1]; omega
  exact (congrArg (coded V c) hi).symm

/-- The codes' array at the end of the first kernel. -/
theorem coded_array (c : Dev nD) : (dat0 V c).arrAt 7 cfg0.N = coded V c :=
  (dat0 V c).arrAt_eq_of_cover 7 (coded V c) (fun t _ => coded_block V c t) fun i => by
      let t : Fin grid0.N := ⟨(i 0).val / 400, by have : (i 0).val < 10000 := (i 0).isLt; show _ < 25; omega⟩
      refine ⟨t, flush0_7 t, ?_⟩
      show i ∈ ((View.whole main_v2_1).slice (win0_7.rect t)).set
      rw [View.set_slice_whole, Rect.mem_set_unit]
      have h0 : (i 0 : Nat) < 10000 := (i 0).isLt
      have h1 : (i 1 : Nat) < 10000 := (i 1).isLt
      obtain ⟨-, -, e0, e1⟩ := at0 t
      intro a
      match a with
      | ⟨0, _⟩ => show win0_7.index t 0 * 400 ≤ (i 0 : Nat) ∧ (i 0 : Nat) < win0_7.index t 0 * 400 + 400; rw [e0]; dsimp only [t]; omega
      | ⟨1, _⟩ => show win0_7.index t 1 * 10000 ≤ (i 1 : Nat) ∧ (i 1 : Nat) < win0_7.index t 1 * 10000 + 10000; rw [e1]; omega

/-! ### The second kernel's result -/

/-- The second hop of a node at a class, through the codes, scaled back. -/
def scoreOf (h : Vec Ideal S10000x16 .f32) (q : Vec Ideal S10000x10000 .i4) (n : Fin 10000) (x : Fin 16) : EReal :=
  (∑ k : Fin 10000, h (ix2 k x) * (((q (ix2 n k)).toNat : ℝ) : EReal)) * ((1 / 150000 : ℝ) : EReal)

/-- The second hop of a node at a class, off the arrays. -/
def scored (c : Dev nD) (n : Fin 10000) (x : Fin 16) : EReal := scoreOf (V c main_v2_0) (V c main_v2_1) n x

/-- The log-softmax of every node's second hop, class by node within a block of two thousand nodes. -/
def classed (c : Dev nD) : Vec Ideal S5x16x2000 .f32 := fun i =>
  logSoftmax (scored V c (node1 (i 0) (i 2))) (i 1)

theorem classed_block (c : Dev nD) (t : Fin cfg1.N) :
    (dat1 V c).flushed 2 t = ((cfg1.win 2).blk t).view.read (Elt Ideal) (classed V c) := by
  show (cfg1.win 2).cut (grid1.coords t) ((dat1 V c).after 2 t) = _
  rw [after1_2]
  funext j
  rw [View.read_apply]
  show k1_pay2 (F := Ideal) (upper (blk1 V c 0 t)) (lower (blk1 V c 0 t)) (turned V c) j = classed V c _
  obtain ⟨x, n, rfl⟩ : ∃ (x : Fin 16) (n : Fin 2000), j = ix3 0 x n :=
    ⟨j 1, j 2, (eq_ix3 j).trans
      (congrArg (fun z : Fin 1 => (ix3 z (j 1) (j 2) : S1x16x2000.Idx)) (Subsingleton.elim (α := Fin 1) _ _))⟩
  obtain ⟨-, e0, e1, e2⟩ := at1 t
  have hi : ((cfg1.win 2).blk t).view.emb (ix3 0 x n) = (ix3 (t : Fin 5) x n : S5x16x2000.Idx) := by
    funext a
    apply Fin.ext
    match a with
    | ⟨0, _⟩ => show win1_2.index t 0 * 1 + 1 * 0 = t.val; rw [e0]; omega
    | ⟨1, _⟩ => show win1_2.index t 1 * 16 + 1 * x.val = x.val; rw [e1]; omega
    | ⟨2, _⟩ => show win1_2.index t 2 * 2000 + 1 * n.val = n.val; rw [e2]; omega
  rw [out_entry _ _ _ (fun k => (V c main_v2_1 : Vec Ideal S10000x10000 .i4) (ix2 (node1 t n) k)) x n ?_]
  · refine Eq.trans ?_ (congrArg (classed V c) hi).symm
    show _ = logSoftmax (scored V c (node1 t n)) x
    congr 1
    funext y
    unfold scored scoreOf turned
    simp only [turned_entry]
  · intro k
    split
    · rename_i hn
      rw [upper_entry, blk1_codes]
    · rename_i hn
      rw [lower_entry, blk1_codes]
      refine congrArg (fun z : Fin 10000 => (V c main_v2_1 : Vec Ideal S10000x10000 .i4) (ix2 z k)) (Fin.ext ?_)
      show t.val * 2000 + n.val = t.val * 2000 + (1000 + (n.val - 1000))
      omega

/-- The result's array at the end of the second kernel. -/
theorem classed_array (c : Dev nD) : (dat1 V c).arrAt 2 cfg1.N = classed V c :=
  (dat1 V c).arrAt_eq_of_cover 2 (classed V c) (fun t _ => classed_block V c t) fun i => by
      let t : Fin grid1.N := (i 0 : Fin 5)
      refine ⟨t, flush1_2 t, ?_⟩
      show i ∈ ((View.whole main_v3).slice (win1_2.rect t)).set
      rw [View.set_slice_whole, Rect.mem_set_unit]
      have h0 : (i 0 : Nat) < 5 := (i 0).isLt
      have h1 : (i 1 : Nat) < 16 := (i 1).isLt
      have h2 : (i 2 : Nat) < 2000 := (i 2).isLt
      obtain ⟨-, e0, e1, e2⟩ := at1 t
      intro a
      match a with
      | ⟨0, _⟩ => show win1_2.index t 0 * 1 ≤ (i 0 : Nat) ∧ (i 0 : Nat) < win1_2.index t 0 * 1 + 1; rw [e0]; dsimp only [t]; omega
      | ⟨1, _⟩ => show win1_2.index t 1 * 16 ≤ (i 1 : Nat) ∧ (i 1 : Nat) < win1_2.index t 1 * 16 + 16; rw [e1]; omega
      | ⟨2, _⟩ => show win1_2.index t 2 * 2000 ≤ (i 2 : Nat) ∧ (i 2 : Nat) < win1_2.index t 2 * 2000 + 2000; rw [e2]; omega

end Cert.Sgc

end
-- ==== Proof.RefValue.lean ====
/- What the reference computes, entry by entry: the two linear layers, the first hop, the second hop through the decoded
   codes, and the log-softmax of its rows. -/
module

public import proofs.«01_k».proof.Proof.Quant
public import proofs.«01_k».proof.Proof.Gen.ReferenceIdeal.Read
public import Idealize.ShloMosaic.Lib.Pointwise

@[expose] public section

set_option maxRecDepth 16384

noncomputable section

namespace Cert.Sgc

open Cert.ReferenceIdeal.Read
open Idealize.ShloMosaic

variable (x0 : (⟨Cert.ReferenceIdeal.S10000x128, .f32⟩ : BufTy).Contents (Elt Ideal))
  (x1 : (⟨Cert.ReferenceIdeal.S10000x10000, .f32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x16, .f32⟩ : BufTy).Contents (Elt Ideal))
  (x5 : (⟨Cert.ReferenceIdeal.S16, .f32⟩ : BufTy).Contents (Elt Ideal))

/-- The reference's two linear layers at an entry. -/
theorem ref_layers (r : Fin 10000) (c : Fin 16) :
    val_main_v7 (F := Ideal) x0 x2 x3 x4 x5 (ix2 r c) =
      ∑ h : Fin 128, (∑ f : Fin 128, x0 (ix2 r f) * x2 (ix2 f h) + x3 (ix1 h)) * x4 (ix2 h c) + x5 (ix1 c) := by
  pointwise [val_main_v7, val_main_v6, val_main_v5, val_main_v4, val_main_v3, val_main_v2, val_main_v1, val_main_v0]

/-- The reference's first hop at an entry. -/
theorem ref_hop (r : Fin 10000) (c : Fin 16) :
    val_main_v8 (F := Ideal) x0 x1 x2 x3 x4 x5 (ix2 r c) =
      ∑ k : Fin 10000, x1 (ix2 r k) * val_main_v7 (F := Ideal) x0 x2 x3 x4 x5 (ix2 k c) := by
  pointwise [val_main_v8]

/-- The reference's second hop at an entry: the decoded row times the first hop's column. -/
theorem ref_second (r : Fin 10000) (c : Fin 16) :
    val_main_v15 (F := Ideal) x0 x1 x2 x3 x4 x5 (ix2 r c) =
      ∑ k : Fin 10000, Ideal.div (clipped (x1 (ix2 r k))) (Ideal.ofBits .f32 0x48127C00#32) *
        val_main_v8 (F := Ideal) x0 x1 x2 x3 x4 x5 (ix2 k c) := by
  pointwise [val_main_v15, val_main_v14, val_main_v13, val_main_v12, val_main_v11, val_main_v10, val_main_v9, val_main_cst,
    val_main_cst_0, val_main_cst_1, val_main_cst_2, val_main_call1_v0, val_main_call1_v1, val_main_call1_v2,
    val_main_call1_v3, val_main_call1_v4]
  rfl

/-- The reference's result at an entry: the log-softmax of the second hop's row. -/
theorem ref_result (r : Fin 10000) (c : Fin 16) :
    val_main_v16 (F := Ideal) x0 x1 x2 x3 x4 x5 (ix2 r c) =
      logSoftmax (fun x => val_main_v15 (F := Ideal) x0 x1 x2 x3 x4 x5 (ix2 r x)) c := by
  pointwise [val_main_v16, val_main_call2_v0, val_main_call2_v1, val_main_call2_v2, val_main_call2_v3, val_main_call2_v4,
    val_main_call2_v5, val_main_call2_v6, val_main_call2_v7, val_main_call2_v8, val_main_call2_v9, val_main_call2_v10,
    val_main_call2_cst, val_main_call2_cst_0, val_main_call2_cst_1]
  simp only [logSoftmax, peak, word_lowest, max_bot_left]

end Cert.Sgc

end
-- ==== Proof.Value.lean ====
/- The equation: the output the kernel program ends with is the reference's result on the same arguments. -/
module

public import proofs.«01_k».proof.Proof.Arrays
public import proofs.«01_k».proof.Proof.RefValue
public import proofs.«01_k».proof.Proof.Run
public import Idealize.ShloMosaic.Lib.StableHlo.ReadAt

@[expose] public section

set_option maxRecDepth 16384

noncomputable section

namespace Cert.Sgc

open Cert.KernelIdeal Cert.KernelIdeal.Gen
open Idealize.ShloMosaic Idealize.ShloMosaic.TcCoe
open Idealize.SL Idealize.SL.Sem
open Cert.ReferenceIdeal.Read (val_main_v7 val_main_v8 val_main_v15 val_main_v16)

variable (m : (ℓ : Loc nD τ sig) → Buf (Elt Ideal) ℓ)

/-- The contents of the arguments, as launched. -/
abbrev feats (c : Dev nD) : Vec Ideal S10000x128 .f32 := m ((c : Thread nD τ).loc main_arg0)
abbrev adj (c : Dev nD) : Vec Ideal S10000x10000 .f32 := m ((c : Thread nD τ).loc main_arg1)
abbrev wts1 (c : Dev nD) : Vec Ideal S128x128 .f32 := m ((c : Thread nD τ).loc main_arg2)
abbrev bias1 (c : Dev nD) : Vec Ideal S128 .f32 := m ((c : Thread nD τ).loc main_arg3)
abbrev wts2 (c : Dev nD) : Vec Ideal S128x16 .f32 := m ((c : Thread nD τ).loc main_arg4)
abbrev bias2 (c : Dev nD) : Vec Ideal S16 .f32 := m ((c : Thread nD τ).loc main_arg5)

/-- The first bias as a row. -/
theorem row_bias1 (c : Dev nD) (h : Fin 128) : (in0 m c main_v0 : Vec Ideal S1x128 .f32) (ix2 0 h) = bias1 m c (ix1 h) := by
  show StableHlo.after hostOps0 (start m c) (Proc.devRef .tc main_v0) (ix2 0 h : S1x128.Idx) = _
  after_reads_at

/-- The second bias as a row. -/
theorem row_bias2 (c : Dev nD) (x : Fin 16) : (in0 m c main_v1 : Vec Ideal S1x16 .f32) (ix2 0 x) = bias2 m c (ix1 x) := by
  show StableHlo.after hostOps0 (start m c) (Proc.devRef .tc main_v1) (ix2 0 x : S1x16.Idx) = _
  after_reads_at

/-- The linear layers are the reference's. -/
theorem linear_eq (c : Dev nD) (r : Fin 10000) (x : Fin 16) :
    linear (in0 m) c (ix2 r x) = val_main_v7 (F := Ideal) (feats m c) (wts1 m c) (bias1 m c) (wts2 m c) (bias2 m c) (ix2 r x) := by
  unfold linear
  rw [layers_entry, ref_layers]
  rw [show in0 m c main_arg0 = feats m c from rowed_arg m c main_arg0 (by simp),
    show in0 m c main_arg2 = wts1 m c from rowed_arg m c main_arg2 (by simp),
    show in0 m c main_arg4 = wts2 m c from rowed_arg m c main_arg4 (by simp)]
  exact congrArg₂ (fun y z : EReal => y + z)
    (Finset.sum_congr rfl fun h _ => congrArg (fun z : EReal =>
      (∑ f : Fin 128, feats m c (ix2 r f) * wts1 m c (ix2 f h) + z) * wts2 m c (ix2 h x)) (row_bias1 m c h))
    (row_bias2 m c x)

/-- The first hop the second kernel is given is the reference's. -/
theorem hopped_eq (c : Dev nD) (r : Fin 10000) (x : Fin 16) :
    (in1 m c main_v2_0 : Vec Ideal S10000x16 .f32) (ix2 r x) =
      val_main_v8 (F := Ideal) (feats m c) (adj m c) (wts1 m c) (bias1 m c) (wts2 m c) (bias2 m c) (ix2 r x) := by
  rw [show in1 m c main_v2_0 = hopped (in0 m) c from (hop1ed_arr m c 6).trans (hopped_array (in0 m) c), ref_hop]
  unfold hopped hopOf
  rw [show in0 m c main_arg1 = adj m c from rowed_arg m c main_arg1 (by simp)]
  exact Finset.sum_congr (M := EReal) rfl fun k _ =>
    congrArg (fun z : EReal => adj m c (ix2 r k) * z) (linear_eq m c k x)

/-- The codes the second kernel is given. -/
theorem coded_eq (c : Dev nD) (r k : Fin 10000) :
    (in1 m c main_v2_1 : Vec Ideal S10000x10000 .i4) (ix2 r k) = code (adj m c (ix2 r k)) := by
  rw [show in1 m c main_v2_1 = coded (in0 m) c from (hop1ed_arr m c 7).trans (coded_array (in0 m) c)]
  unfold coded
  rw [show in0 m c main_arg1 = adj m c from rowed_arg m c main_arg1 (by simp)]

/-- The second hop is the reference's. -/
theorem scored_eq (c : Dev nD) (r : Fin 10000) (x : Fin 16) :
    scored (in1 m) c r x =
      val_main_v15 (F := Ideal) (feats m c) (adj m c) (wts1 m c) (bias1 m c) (wts2 m c) (bias2 m c) (ix2 r x) := by
  unfold scored scoreOf
  rw [decoded_sum, ref_second]
  refine Finset.sum_congr rfl fun k _ => congrArg₂ (fun y z : EReal => Ideal.div y _ * z) ?_ (hopped_eq m c k x)
  exact (congrArg (fun b : BitVec 4 => ((b.toNat : ℝ) : EReal)) (coded_eq m c r k)).trans (code_value _)

/-- The output at an entry, off the second kernel's result. -/
theorem laid_out (c : Dev nD) (r : Fin 10000) (x : Fin 16) :
    (final m c (Proc.devRef .tc main_v5) : Vec Ideal S10000x16 .f32) (ix2 r x) =
      (hop2ed m c (Proc.devRef .tc main_v3) : Vec Ideal S5x16x2000 .f32)
        (ix3 ⟨r.val / 2000, by omega⟩ x ⟨r.val % 2000, by omega⟩) := by
  show StableHlo.after hostOps2 (hop2ed m c) (Proc.devRef .tc main_v5) (ix2 r x : S10000x16.Idx) = _
  after_reads_at

/-- The output is the reference's result. -/
theorem output_eq (c : Dev nD) :
    (final m c (Proc.devRef .tc main_v5) : Vec Ideal S10000x16 .f32) =
      val_main_v16 (F := Ideal) (feats m c) (adj m c) (wts1 m c) (bias1 m c) (wts2 m c) (bias2 m c) := by
  funext i
  obtain ⟨r, x, rfl⟩ : ∃ (r : Fin 10000) (x : Fin 16), i = ix2 r x := ⟨i 0, i 1, eq_ix2 i⟩
  rw [laid_out, ref_result,
    show hop2ed m c (Proc.devRef .tc main_v3) = classed (in1 m) c from (hop2ed_arr m c 2).trans (classed_array (in1 m) c)]
  have hr : node1 (⟨r.val / 2000, by show _ < 5; omega⟩ : Fin grid1.N) ⟨r.val % 2000, by omega⟩ = r :=
    Fin.ext (by show r.val / 2000 * 2000 + r.val % 2000 = r.val; omega)
  show logSoftmax (scored (in1 m) c (node1 (⟨r.val / 2000, _⟩ : Fin grid1.N) ⟨r.val % 2000, _⟩)) x = _
  rw [hr]
  congr 1
  funext y
  exact scored_eq m c r y

end Cert.Sgc

end
-- ==== Proof.lean ====
/- Assembles the claims: both programs' frames from the kernel program's one run, the reference's frame from its run, the
   named constant, and the kernel's output equal to the reference's. -/
module

public import proofs.«01_k».proof.Defs
public import proofs.«01_k».proof.Proof.Frames
public import proofs.«01_k».proof.Proof.Value
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

@[expose] public section

noncomputable section

namespace Cert.Proof

open Idealize.ShloMosaic Idealize.SL.Sem

/-- The reference leaves its arguments unchanged and no semaphore raised. -/
theorem frame_reference : Cert.quiescent_ReferenceIdeal := by
  intro m g hm
  exact (θ_run _ _ _).mono (fun r h => ⟨fun c => (h c).2, sem_eq_zero_of_no_sems rfl r.2⟩)
    (Cert.ReferenceIdeal.Value.run (F := Ideal) m g)

/-- The constant named is the one printed. -/
theorem named : Cert.preserves_Kernel_KernelIdeal :=
  IdealRules.named_const.statement Cert.KernelIdeal.κ "inv_qscale" .f32 0x36DFB23B#32 _ rfl

open Cert.Sgc in
/-- On the same arguments the kernel program and the reference end with the same output. -/
theorem same_output : Cert.algebraic_KernelIdeal_ReferenceIdeal := by
  intro m g m' g' hm agree
  refine ⟨fun c => final m c (Proc.devRef .tc Cert.KernelIdeal.main_v5), ?_, ?_⟩
  · refine (θ_run _ _ _).mono (fun r h c => ?_) (whole_run m g)
    have kept : ∀ a ∈ args, r.2.mem ((c.tc : Thread Cert.KernelIdeal.nD Cert.KernelIdeal.τ).loc a) =
        m ((c.tc : Thread Cert.KernelIdeal.nD Cert.KernelIdeal.τ).loc a) := fun a ha =>
      (h.1 c _ (held_mem a (args_held a ha))).trans (final_arg m c a ha)
    exact ⟨h.1 c _ (held_mem Cert.KernelIdeal.main_v5 (by decide +kernel)), kept _ (by simp), kept _ (by simp),
      kept _ (by simp), kept _ (by simp), kept _ (by simp), kept _ (by simp)⟩
  · refine (θ_run _ _ _).mono (fun r h c => ⟨(h c).1.trans ?_, (h c).2⟩) (Cert.ReferenceIdeal.Value.run (F := Ideal) m' g')
    obtain ⟨e0, e1, e2, e3, e4, e5⟩ := agree c
    refine (Cert.ReferenceIdeal.Read.val_main_v16_eq m' c).trans ?_
    rw [e0, e1, e2, e3, e4, e5]
    exact (output_eq m c).symm

theorem claim : Cert.Claim := ⟨Cert.Kernel.Gen.facts, Cert.KernelIdeal.Gen.facts, Cert.ReferenceIdeal.Gen.facts,
  Cert.Sgc.frame_printed, Cert.Sgc.frame_idealized, frame_reference, named, same_output⟩

end Cert.Proof

end
